-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v20) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S1792x14336 : Shape := ⟨2, ![1792, 14336]⟩
abbrev S28x14336 : Shape := ⟨2, ![28, 14336]⟩
abbrev S3584x14336 : Shape := ⟨2, ![3584, 14336]⟩
abbrev S1792x512 : Shape := ⟨2, ![1792, 512]⟩
abbrev S28x512 : Shape := ⟨2, ![28, 512]⟩
abbrev S3584x512 : Shape := ⟨2, ![3584, 512]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S1792x14336, .i8⟩
  | .hbm, ⟨1, _⟩ => ⟨S28x14336, .bf16⟩
  | .hbm, ⟨2, _⟩ => ⟨S28x14336, .bf16⟩
  | .hbm, ⟨3, _⟩ => ⟨S3584x14336, .bf16⟩
  | .local _ .vmem, ⟨0, _⟩ => ⟨S1792x512, .i8⟩
  | .local _ .vmem, ⟨1, _⟩ => ⟨S1792x512, .i8⟩
  | .local _ .vmem, ⟨2, _⟩ => ⟨S28x512, .bf16⟩
  | .local _ .vmem, ⟨3, _⟩ => ⟨S28x512, .bf16⟩
  | .local _ .vmem, ⟨4, _⟩ => ⟨S28x512, .bf16⟩
  | .local _ .vmem, ⟨5, _⟩ => ⟨S28x512, .bf16⟩
  | .local _ .vmem, ⟨6, _⟩ => ⟨S3584x512, .bf16⟩
  | .local _ .vmem, ⟨7, _⟩ => ⟨S3584x512, .bf16⟩
  | _, _ => ⟨S1792x14336, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1792x512 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S28x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3584x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference.lean ====
abbrev S1792x14336 : Shape := ⟨2, ![1792, 14336]⟩
abbrev S28x14336 : Shape := ⟨2, ![28, 14336]⟩
abbrev S28x64x1x14336 : Shape := ⟨4, ![28, 64, 1, 14336]⟩
abbrev S28x64x2x14336 : Shape := ⟨4, ![28, 64, 2, 14336]⟩
abbrev S28x128x14336 : Shape := ⟨3, ![28, 128, 14336]⟩
abbrev S1x128x1 : Shape := ⟨3, ![1, 128, 1]⟩
abbrev S_ : Shape := ⟨0, ![]⟩
abbrev S28x1x14336 : Shape := ⟨3, ![28, 1, 14336]⟩
abbrev S3584x14336 : Shape := ⟨2, ![3584, 14336]⟩

abbrev nBuf : Space → Nat
  | .hbm => 27
  | .vmem => 0
  | .smem => 0
  | _ => 0

abbrev bufTy : (tb : Table) → Fin (tcTables nBuf tb) → BufTy
  | .hbm, ⟨0, _⟩ => ⟨S1792x14336, .i8⟩
  | .hbm, ⟨1, _⟩ => ⟨S28x14336, .bf16⟩
  | .hbm, ⟨2, _⟩ => ⟨S28x14336, .bf16⟩
  | .hbm, ⟨3, _⟩ => ⟨S28x64x1x14336, .i8⟩
  | .hbm, ⟨4, _⟩ => ⟨S28x64x2x14336, .i8⟩
  | .hbm, ⟨5, _⟩ => ⟨S28x128x14336, .i8⟩
  | .hbm, ⟨6, _⟩ => ⟨S1x128x1, .i32⟩
  | .hbm, ⟨7, _⟩ => ⟨S_, .i32⟩
  | .hbm, ⟨8, _⟩ => ⟨S1x128x1, .i32⟩
  | .hbm, ⟨9, _⟩ => ⟨S1x128x1, .i32⟩
  | .hbm, ⟨10, _⟩ => ⟨S_, .i32⟩
  | .hbm, ⟨11, _⟩ => ⟨S1x128x1, .i32⟩
  | .hbm, ⟨12, _⟩ => ⟨S1x128x1, .i32⟩
  | .hbm, ⟨13, _⟩ => ⟨S28x128x14336, .i32⟩
  | .hbm, ⟨14, _⟩ => ⟨S28x128x14336, .i32⟩
  | .hbm, ⟨15, _⟩ => ⟨S28x128x14336, .i32⟩
  | .hbm, ⟨16, _⟩ => ⟨S_, .i32⟩
  | .hbm, ⟨17, _⟩ => ⟨S28x128x14336, .i32⟩
  | .hbm, ⟨18, _⟩ => ⟨S28x128x14336, .i32⟩
  | .hbm, ⟨19, _⟩ => ⟨S28x128x14336, .bf16⟩
  | .hbm, ⟨20, _⟩ => ⟨S28x1x14336, .bf16⟩
  | .hbm, ⟨21, _⟩ => ⟨S28x1x14336, .bf16⟩
  | .hbm, ⟨22, _⟩ => ⟨S28x128x14336, .bf16⟩
  | .hbm, ⟨23, _⟩ => ⟨S28x128x14336, .bf16⟩
  | .hbm, ⟨24, _⟩ => ⟨S28x128x14336, .bf16⟩
  | .hbm, ⟨25, _⟩ => ⟨S28x128x14336, .bf16⟩
  | .hbm, ⟨26, _⟩ => ⟨S3584x14336, .bf16⟩
  | _, _ => ⟨S1792x14336, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Dequant.lean ====
/-
  THE MATHEMATICS of the grouped int4 dequantisation, apart from any program: every packed byte holds two 4-bit codes,
  the low one for an even row of the result and the high one for the odd row after it; row `r` of the result belongs to
  group `r / 128`, and its element in column `c` is (code − zero) · scale with the zero and the scale of that group and
  column. Here: that function (`whole`), the block of 128 rows that the kernel's body computes from one group
  (`blockPay`, `blockPay_apply`), and the whole-array reference term (`refTerm`, `refTerm_eq`).
-/
module

public import Idealize.ShloMosaic.Lib.Pointwise
public import Idealize.ShloMosaic.Lib.Pipeline.ValueKit
public import Idealize.ShloMosaic.Adequacy

@[expose] public section

set_option maxRecDepth 16384

noncomputable section

namespace Cert.Dequant

open Idealize.ShloMosaic

variable {F : FTy → Type} [FloatOps F]

/-- The 4-bit code that row `r` of the result takes from its packed byte: the low half on even rows, the high on odd. -/
def nibble (b : BitVec 8) (r : Nat) : BitVec 4 :=
  if r % 2 = 0 then (b.setWidth 32 &&& 15#32).setWidth 4 else ((b.setWidth 32).sshiftRight 4).setWidth 4

/-- One element of the result: its code less the zero, times the scale. -/
def deq (b : BitVec 8) (r : Nat) (z s : F .bf16) : F .bf16 :=
  FloatOps.mulf (FloatOps.subf (FloatOps.uitofp .bf16 (nibble b r)) z) s

/-- Of its row an element reads only the parity. -/
theorem deq_congr {b b' : BitVec 8} {r r' : Nat} {z z' s s' : F .bf16} (hb : b = b') (hr : r % 2 = r' % 2) (hz : z = z')
    (hs : s = s') : deq b r z s = deq b' r' z' s' := by
  subst hb hz hs
  unfold deq nibble
  rw [hr]

/-- The packed bytes, the zeros or scales, and the result, at `n` columns. -/
abbrev SW (n : Nat) : Shape := ⟨2, ![1792, n]⟩
abbrev SP (n : Nat) : Shape := ⟨2, ![28, n]⟩
abbrev SO (n : Nat) : Shape := ⟨2, ![3584, n]⟩

/-- The result at row `r` and column `c`, from the packed bytes, the scales and the zeros. -/
def elem {n : Nat} (w : IVec (SW n) 8) (s z : FVec F (SP n) .bf16) (r : Fin 3584) (c : Fin n) : F .bf16 :=
  deq (w (ix2 ⟨r.val / 2, by omega⟩ c)) r.val (z (ix2 ⟨r.val / 128, by omega⟩ c)) (s (ix2 ⟨r.val / 128, by omega⟩ c))

/-- The whole result at `n` columns. -/
def whole {n : Nat} (w : IVec (SW n) 8) (s z : FVec F (SP n) .bf16) : FVec F (SO n) .bf16 := fun i =>
  elem w s z (i 0) (i 1)

/-- No column looks at another: where two sets of operands agree, column `c` of the one with column `c'` of the other, so
    do the results. -/
theorem elem_congr {n n' : Nat} {w : IVec (SW n) 8} {s z : FVec F (SP n) .bf16} {w' : IVec (SW n') 8}
    {s' z' : FVec F (SP n') .bf16} {c : Fin n} {c' : Fin n'} (hw : ∀ r, w (ix2 r c) = w' (ix2 r c'))
    (hs : ∀ g, s (ix2 g c) = s' (ix2 g c')) (hz : ∀ g, z (ix2 g c) = z' (ix2 g c')) {r r' : Fin 3584}
    (hr : r = r') : elem w s z r c = elem w' s' z' r' c' := by
  subst hr
  unfold elem
  rw [hw, hs, hz]

/-! ## One group of a block: what the kernel's body computes -/

abbrev B64 : Shape := ⟨2, ![64, 512]⟩
abbrev B64x1 : Shape := ⟨3, ![64, 1, 512]⟩
abbrev B64x2 : Shape := ⟨3, ![64, 2, 512]⟩
abbrev B128 : Shape := ⟨2, ![128, 512]⟩
abbrev B1 : Shape := ⟨2, ![1, 512]⟩

/-- The body's payload for one group: the two halves of every byte interleaved row by row, converted, less the zeros and
    times the scales, both broadcast along the group's rows. -/
def blockPay (w : IVec B64 8) (z s : FVec F B1 .bf16) : FVec F B128 .bf16 :=
  mulf (subf (uitofp .bf16 (shapeCast B128 (trunci 4 (concatenate B64x2 1
      [⟨B64x1, shapeCast B64x1 (andi (extui 32 w (by decide)) (broadcast B64 15#32)) (by decide)⟩,
       ⟨B64x1, shapeCast B64x1 (shrsi (extui 32 w (by decide)) (broadcast B64 4#32)) (by decide)⟩]
      (show Shape.Concatenates [B64x1, B64x1] B64x2 1 by decide)) (by decide)) (by decide)))
    (broadcastTo B128 z (by decide))) (broadcastTo B128 s (by decide))

/-- The payload at row `r` and lane `l`: the element that byte row `r / 2` and the group's zero and scale give. -/
theorem blockPay_apply (w : IVec B64 8) (z s : FVec F B1 .bf16) (r : Fin 128) (l : Fin 512) :
    blockPay w z s (ix2 r l) = deq (w (ix2 ⟨r.val / 2, by omega⟩ l)) r.val (z (ix2 0 l)) (s (ix2 0 l)) := by
  unfold blockPay deq nibble
  pointwise
  by_cases h : r.val % 2 = 0
  · rw [dif_pos (by omega), if_pos h]; rfl
  · rw [dif_neg (by omega), if_neg h]; rfl

/-- Group `b` of a block: the payload of its 64 byte rows and of its row of zeros and of scales, at local index `x`, is
    the block's result at the index `y` that `x` is placed at, 128 rows to a group. -/
theorem group_eq (w : IVec (SW 512) 8) (s z : FVec F (SP 512) .bf16) (y : (SO 512).Idx) (x : B128.Idx) (a b : Nat)
    (inbw : ∀ k, (![a, 0] : Fin 2 → Nat) k + B64.size k ≤ (SW 512).size k)
    (inbp : ∀ k, (![b, 0] : Fin 2 → Nat) k + B1.size k ≤ (SP 512).size k)
    (hab : a = 64 * b) (h0 : (y 0 : Nat) = 128 * b + x 0) (h1 : (y 1 : Nat) = x 1) :
    blockPay (F := F) (View.ld (Val := Elt F) (e' := .i8) w (Rect.unit (s := SW 512) ![a, 0] B64.size inbw))
      (View.ld (Val := Elt F) (e' := .bf16) z (Rect.unit (s := SP 512) ![b, 0] B1.size inbp))
      (View.ld (Val := Elt F) (e' := .bf16) s (Rect.unit (s := SP 512) ![b, 0] B1.size inbp)) x = whole w s z y := by
  have hx0 : (x 0 : Nat) < 128 := (x 0).isLt
  have hy0 : (y 0 : Nat) < 3584 := (y 0).isLt
  refine (congrArg _ (eq_ix2 x)).trans ((blockPay_apply _ _ _ (x 0) (x 1)).trans ?_)
  refine deq_congr ?_ (by omega) ?_ ?_
  · refine View.ld_unit_apply_of (Val := Elt F) (e := .i8) w _ _ inbw _ (ix2 (n1 := 512) (⟨(y 0 : Nat) / 2, by omega⟩ : Fin 1792) (y 1)) fun k => ?_
    match k with
    | ⟨0, _⟩ => show (y 0 : Nat) / 2 = a + (x 0 : Nat) / 2; omega
    | ⟨1, _⟩ => show (y 1 : Nat) = 0 + (x 1 : Nat); omega
  all_goals
    refine View.ld_unit_apply_of (Val := Elt F) (e := .bf16) _ _ _ inbp _ (ix2 (n1 := 512) (⟨(y 0 : Nat) / 128, by omega⟩ : Fin 28) (y 1)) fun k => ?_
    match k with
    | ⟨0, _⟩ => show (y 0 : Nat) / 128 = b + 0; omega
    | ⟨1, _⟩ => show (y 1 : Nat) = 0 + (x 1 : Nat); omega

/-! ## The reference's term -/

abbrev H4 : Shape := ⟨4, ![28, 64, 1, 14336]⟩
abbrev H4x2 : Shape := ⟨4, ![28, 64, 2, 14336]⟩
abbrev H3 : Shape := ⟨3, ![28, 128, 14336]⟩
abbrev HI : Shape := ⟨3, ![1, 128, 1]⟩
abbrev HP : Shape := ⟨3, ![28, 1, 14336]⟩
abbrev H0 : Shape := ⟨0, ![]⟩

/-- The reference: every byte repeated for its two rows, shifted right by 0 or 4 as the row is even or odd and masked to
    four bits, converted, less the zeros and times the scales, the groups laid end to end. -/
def refTerm (w : IVec (SW 14336) 8) (s z : FVec F (SP 14336) .bf16) : FVec F (SO 14336) .bf16 :=
  shapeCast (SO 14336) (mulf (subf (sitofp .bf16 (andi (Host.shrsi
      (extui 32 (shapeCast H3 (broadcastInDim H4x2 ![0, 1, 2, 3] (by decide) (shapeCast H4 w (by decide))) (by decide)) (by decide))
      (broadcastInDim H3 ![0, 1, 2] (by decide) (muli
        (andi (iotaInDim HI 32 1) (broadcastInDim HI ![] (by decide) (constantI H0 32 1#32)))
        (broadcastInDim HI ![] (by decide) (constantI H0 32 4#32)))))
      (broadcastInDim H3 ![] (by decide) (constantI H0 32 15#32))))
    (broadcastInDim H3 ![0, 1, 2] (by decide) (broadcastInDim HP ![0, 2] (by decide) z)))
    (broadcastInDim H3 ![0, 1, 2] (by decide) (broadcastInDim HP ![0, 2] (by decide) s))) (by decide)

/-- The shift amount the reference computes for a row: nothing on even rows, four on odd ones. -/
theorem shift_eq : ∀ r : Fin 128, IntOp.muli (IntOp.andi (BitVec.ofNat 32 r.val) 1#32) 4#32
    = if r.val % 2 = 0 then 0#32 else 4#32 := by decide +kernel

/-- The low code, masked first and then narrowed, is the reference's unshifted and masked one, for each byte, -/
theorem low_eq : ∀ b : BitVec 8, (((b.setWidth 32 &&& 15#32).setWidth 4).toNat : Int)
    = (IntOp.andi (IntOp.shrsi .host (b.setWidth 32) 0#32) 15#32).toInt := by decide +kernel

/-- and the high code, shifted and then narrowed, is the reference's shifted and masked one. -/
theorem high_eq : ∀ b : BitVec 8, ((((b.setWidth 32).sshiftRight 4).setWidth 4).toNat : Int)
    = (IntOp.andi (IntOp.shrsi .host (b.setWidth 32) 4#32) 15#32).toInt := by decide +kernel

/-- The two readings of a code agree as numbers: the 4-bit one unsigned, the reference's 32-bit one signed. -/
theorem code_eq (b : BitVec 8) (r : Nat) :
    ((nibble b r).toNat : Int) = (IntOp.andi (IntOp.shrsi .host (b.setWidth 32)
      (IntOp.muli (IntOp.andi (BitVec.ofNat 32 (r % 128)) 1#32) 4#32)) 15#32).toInt := by
  rw [shift_eq ⟨r % 128, Nat.mod_lt _ (by decide)⟩]
  unfold nibble
  by_cases h : r % 2 = 0
  · rw [if_pos h, if_pos (by show r % 128 % 2 = 0; omega)]; exact low_eq b
  · rw [if_neg h, if_neg (by show ¬ r % 128 % 2 = 0; omega)]; exact high_eq b

/-- The reference's term is `whole`, for any float values whose conversion of a 4-bit code is that of the 32-bit
    integer of the same value. -/
theorem refTerm_eq (H : ∀ (x : BitVec 4) (y : BitVec 32), (x.toNat : Int) = y.toInt →
      (FloatOps.uitofp .bf16 x : F .bf16) = FloatOps.sitofp .bf16 y)
    (w : IVec (SW 14336) 8) (s z : FVec F (SP 14336) .bf16) : refTerm w s z = whole w s z := by
  funext j
  idx_vars j
  unfold refTerm whole elem deq
  pointwise
  have e : (⟨j0.val / 128 * 64 + j0.val % 128 / 2, by omega⟩ : Fin 1792) = ⟨j0.val / 2, by omega⟩ :=
    Fin.ext (by show j0.val / 128 * 64 + j0.val % 128 / 2 = j0.val / 2; omega)
  rw [e, H _ _ (code_eq _ _)]

end Cert.Dequant

end
-- ==== Proof.Convert.lean ====
/-
  THE ONE CONVERSION the two programs spell differently: the kernel converts an unsigned 4-bit code to bfloat16, the
  reference a signed 32-bit integer of the same value. Both conversions depend on the value alone: at the bit-exact
  instance each is the rounding of that integer, at the ideal one each is that integer.
-/
module

public import proofs.«01_k».proof.Proof.Dequant

@[expose] public section

noncomputable section

namespace Cert.Dequant

open Idealize.ShloMosaic

theorem convert_bits (x : BitVec 4) (y : BitVec 32) (h : (x.toNat : Int) = y.toInt) :
    (FloatOps.uitofp .bf16 x : Bits .bf16) = FloatOps.sitofp .bf16 y := by
  show Bits.truncf32to16 (Bits.uitofp32 x) = Bits.truncf32to16 (Bits.sitofp32 y)
  unfold Bits.uitofp32 Bits.sitofp32
  rw [← h]

theorem convert_ideal (x : BitVec 4) (y : BitVec 32) (h : (x.toNat : Int) = y.toInt) :
    (FloatOps.uitofp .bf16 x : Ideal .bf16) = FloatOps.sitofp .bf16 y := by
  show ((x.toNat : ℝ) : EReal) = ((y.toInt : ℝ) : EReal)
  rw [← h]; norm_cast

end Cert.Dequant

end
-- ==== Proof.KernelValue.lean ====
/-
  WHAT THE RESULT ARRAY HOLDS after the run of `Kernel`: the class-A run names it block by block; each block, 28 groups of
  128 rows stored one after the other, is the dequantisation of its 512 columns (`out_eq`), so the array is the
  dequantisation of the arguments (`final`), and the run is read so (`run`).
-/
module

public import proofs.«01_k».proof.Proof.Dequant
public import proofs.«01_k».proof.Proof.Gen.Kernel.Value

@[expose] public section

set_option maxRecDepth 16384

noncomputable section

namespace Cert.Kernel.RefValue

open Cert.Kernel Cert.Kernel.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What the body leaves in the result's staging buffer: the dequantisation of the three input blocks. -/
theorem out_eq (x0 : Vec F S1792x512 .i8) (x1 x2 : Vec F S28x512 .bf16) (y : S3584x512.Idx) :
    out0_3 x0 x1 x2 y = Dequant.whole (n := 512) x0 x1 x2 y := by
  canon_tiles x h using Gen.cover0_3 ..
  all_goals
    refine Dequant.group_eq x0 x1 x2 y x _ _ _ _ ?_ ?_ ?_ <;> omega

/-- The windows move together: at every point each is at row block 0 and at the point's own column block. -/
theorem idx : ∀ t : Fin cfg0.N, win0_0.index t = ![0, t.val] ∧ win0_1.index t = ![0, t.val]
    ∧ win0_2.index t = ![0, t.val] ∧ win0_3.index t = ![0, t.val] := by
  decide +kernel

/-- The result array after the run is the dequantisation of the arguments. -/
theorem final (c : Dev nD) : (dats m 0 c).arrAt 3 cfg0.N
    = Dequant.whole (n := 14336) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3, out_eq]
  refine Dequant.elem_congr (fun r => ?_) (fun g => ?_) (fun g => ?_) (Fin.ext ?_)
  · blk_ext [iblk, V, idx t]
  · blk_ext [iblk, V, idx t]
  · blk_ext [iblk, V, idx t]
  · blk_simp [idx t]

/-- The run, read: the result array at the dequantisation of the arguments, the arguments unchanged. -/
theorem run : θ_run defs (onTc (τ := τ) (main (F := F))) ⟨m, fun _ => 0, ρ⟩ fun r => ∀ c : Dev nD,
      r.2.mem ((c : Thread nD τ).loc main_v0)
          = Dequant.whole (n := 14336) (m ((c : Thread nD τ).loc main_arg0)) (m ((c : Thread nD τ).loc main_arg1))
              (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel.RefValue

end
-- ==== Proof.KernelIdealValue.lean ====
/-
  WHAT THE RESULT ARRAY HOLDS after the run of `KernelIdeal`: the class-A run names it block by block; each block, 28 groups of
  128 rows stored one after the other, is the dequantisation of its 512 columns (`out_eq`), so the array is the
  dequantisation of the arguments (`final`), and the run is read so (`run`).
-/
module

public import proofs.«01_k».proof.Proof.Dequant
public import proofs.«01_k».proof.Proof.Gen.KernelIdeal.Value

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What the body leaves in the result's staging buffer: the dequantisation of the three input blocks. -/
theorem out_eq (x0 : Vec F S1792x512 .i8) (x1 x2 : Vec F S28x512 .bf16) (y : S3584x512.Idx) :
    out0_3 x0 x1 x2 y = Dequant.whole (n := 512) x0 x1 x2 y := by
  canon_tiles x h using Gen.cover0_3 ..
  all_goals
    refine Dequant.group_eq x0 x1 x2 y x _ _ _ _ ?_ ?_ ?_ <;> omega

/-- The windows move together: at every point each is at row block 0 and at the point's own column block. -/
theorem idx : ∀ t : Fin cfg0.N, win0_0.index t = ![0, t.val] ∧ win0_1.index t = ![0, t.val]
    ∧ win0_2.index t = ![0, t.val] ∧ win0_3.index t = ![0, t.val] := by
  decide +kernel

/-- The result array after the run is the dequantisation of the arguments. -/
theorem final (c : Dev nD) : (dats m 0 c).arrAt 3 cfg0.N
    = Dequant.whole (n := 14336) (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3, out_eq]
  refine Dequant.elem_congr (fun r => ?_) (fun g => ?_) (fun g => ?_) (Fin.ext ?_)
  · blk_ext [iblk, V, idx t]
  · blk_ext [iblk, V, idx t]
  · blk_ext [iblk, V, idx t]
  · blk_simp [idx t]

/-- The run, read: the result array at the dequantisation of the arguments, the arguments unchanged. -/
theorem run : θ_run defs (onTc (τ := τ) (main (F := F))) ⟨m, fun _ => 0, ρ⟩ fun r => ∀ c : Dev nD,
      r.2.mem ((c : Thread nD τ).loc main_v0)
          = Dequant.whole (n := 14336) (m ((c : Thread nD τ).loc main_arg0)) (m ((c : Thread nD τ).loc main_arg1))
              (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Convert
public import proofs.«01_k».proof.Proof.KernelValue
public import proofs.«01_k».proof.Proof.KernelIdealValue
public import proofs.«01_k».proof.Proof.Gen.ReferenceIdeal.Run
public import proofs.«01_k».proof.Proof.Gen.Reference.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem frame_Kernel : Cert.quiescent_Kernel (hKernel := Cert.Kernel.Gen.facts) := fun m ρ _ => Cert.Kernel.Gen.frame m ρ

theorem frame_KernelIdeal : Cert.quiescent_KernelIdeal (hKernelIdeal := Cert.KernelIdeal.Gen.facts) :=
  fun m ρ _ => Cert.KernelIdeal.Gen.frame m ρ

theorem frame_ReferenceIdeal : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

theorem frame_Reference : Cert.quiescent_Reference (hReference := Cert.Reference.Gen.facts) :=
  fun m ρ _ => (θ_run Cert.Reference.defs _ _).mono
    (fun r h => ⟨fun c => (h c).2, sem_eq_zero_of_no_sems (by decide) r.2⟩) (Cert.Reference.Value.run m ρ)

/-- On the extended reals the kernel and the reference both end holding the dequantisation of the arguments, -/
theorem algebraic : Cert.algebraic_KernelIdeal_ReferenceIdeal (hKernelIdeal := Cert.KernelIdeal.Gen.facts)
    (hReferenceIdeal := Cert.ReferenceIdeal.Gen.facts) :=
  fun m g m' g' _ hag => ⟨_, Cert.KernelIdeal.RefValue.run m g,
    (θ_run Cert.ReferenceIdeal.defs _ _).mono (fun r h c => ⟨(h c).1.trans (by
        rw [(hag c).1, (hag c).2.1, (hag c).2.2]
        exact Cert.Dequant.refTerm_eq Cert.Dequant.convert_ideal _ _ _), (h c).2⟩)
      (Cert.ReferenceIdeal.Value.run m' g')⟩

/-- and word for word at the bit-exact instance. -/
theorem bitexact : Cert.bitexact_Kernel_Reference (hKernel := Cert.Kernel.Gen.facts)
    (hReference := Cert.Reference.Gen.facts) :=
  fun m g m' g' _ hag => ⟨_, Cert.Kernel.RefValue.run m g,
    (θ_run Cert.Reference.defs _ _).mono (fun r h c => ⟨(h c).1.trans (by
        rw [(hag c).1, (hag c).2.1, (hag c).2.2]
        exact Cert.Dequant.refTerm_eq Cert.Dequant.convert_bits _ _ _), (h c).2⟩)
      (Cert.Reference.Value.run m' g')⟩

theorem claim : Cert.Claim :=
  ⟨Cert.Kernel.Gen.facts, Cert.KernelIdeal.Gen.facts, Cert.ReferenceIdeal.Gen.facts, Cert.Reference.Gen.facts,
    frame_Kernel, frame_KernelIdeal, frame_ReferenceIdeal, frame_Reference, trivial, algebraic, bitexact⟩

end Cert.Proof

end
